-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S128x3x256x256 : Shape := ⟨4, ![128, 3, 256, 256]⟩
abbrev S128 : Shape := ⟨1, ![128]⟩
abbrev S1000x1x1x1 : Shape := ⟨4, ![1000, 1, 1, 1]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x3x256x256 .f32) (main_arg1 : IVec S128 32) (main_arg2 : FVec F S128x3x256x256 .f32) (main_arg3 : FVec F S1000x1x1x1 .f32) (main_arg4 : FVec F S1000x1x1x1 .f32) : IVec S128 1 :=
  let main_c : IVec S_ 32 := constantI S_ 32 0#32
  let main_v0 : IVec S128 32 := broadcastInDim S128 ![] bcast_S_S128 main_c
  let main_v1 : IVec S128 1 := cmpi .sge main_arg1 main_v0
  let main_c_0 : IVec S_ 32 := constantI S_ 32 1000#32
  let main_v2 : IVec S128 32 := broadcastInDim S128 ![] bcast_S_S128 main_c_0
  let main_v3 : IVec S128 1 := cmpi .slt main_arg1 main_v2
  let main_v4 : IVec S128 1 := andi main_v1 main_v3
  main_v4
-- ==== Kernel.lean ====
abbrev S128x3x256x256 : Shape := ⟨4, ![128, 3, 256, 256]⟩
abbrev S128 : Shape := ⟨1, ![128]⟩
abbrev S1000x1x1x1 : Shape := ⟨4, ![1000, 1, 1, 1]⟩
abbrev S1000 : Shape := ⟨1, ![1000]⟩
abbrev S128x1536x128 : Shape := ⟨3, ![128, 1536, 128]⟩
abbrev S4x1536x128 : Shape := ⟨3, ![4, 1536, 128]⟩
abbrev S1 : Shape := ⟨1, ![1]⟩
abbrev S1x1536x128 : Shape := ⟨3, ![1, 1536, 128]⟩
abbrev S1536x128 : Shape := ⟨2, ![1536, 128]⟩

abbrev nBuf : Space → Nat
  | .hbm => 11
  | .vmem => 6
  | .smem => 3
  | _ => 0

abbrev bufTy : (tb : Table) → Fin (tcTables nBuf tb) → BufTy
  | .hbm, ⟨0, _⟩ => ⟨S128x3x256x256, .f32⟩
  | .hbm, ⟨1, _⟩ => ⟨S128, .i32⟩
  | .hbm, ⟨2, _⟩ => ⟨S128x3x256x256, .f32⟩
  | .hbm, ⟨3, _⟩ => ⟨S1000x1x1x1, .f32⟩
  | .hbm, ⟨4, _⟩ => ⟨S1000x1x1x1, .f32⟩
  | .hbm, ⟨5, _⟩ => ⟨S1000, .f32⟩
  | .hbm, ⟨6, _⟩ => ⟨S1000, .f32⟩
  | .hbm, ⟨7, _⟩ => ⟨S128x1536x128, .f32⟩
  | .hbm, ⟨8, _⟩ => ⟨S128x1536x128, .f32⟩
  | .hbm, ⟨9, _⟩ => ⟨S128x1536x128, .f32⟩
  | .hbm, ⟨10, _⟩ => ⟨S128x3x256x256, .f32⟩
  | .local _ .vmem, ⟨0, _⟩ => ⟨S4x1536x128, .f32⟩
  | .local _ .vmem, ⟨1, _⟩ => ⟨S4x1536x128, .f32⟩
  | .local _ .vmem, ⟨2, _⟩ => ⟨S4x1536x128, .f32⟩
  | .local _ .vmem, ⟨3, _⟩ => ⟨S4x1536x128, .f32⟩
  | .local _ .vmem, ⟨4, _⟩ => ⟨S4x1536x128, .f32⟩
  | .local _ .vmem, ⟨5, _⟩ => ⟨S4x1536x128, .f32⟩
  | .local _ .smem, ⟨0, _⟩ => ⟨S128, .i32⟩
  | .local _ .smem, ⟨1, _⟩ => ⟨S1000, .f32⟩
  | .local _ .smem, ⟨2, _⟩ => ⟨S1000, .f32⟩
  | _, _ => ⟨S128x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  ![v2.toNat]
def k0_off2 (v3 : BitVec 32) : Fin 1 → Nat :=
  let v4 : Index := Scalar.indexCast v3
  ![v4.toNat]

def k0_chk1 (v3 : BitVec 32) : Prop :=
  (∀ a, (k0_off2 v3) a + S1.size a ≤ S1000.size a)
theorem k0_off2_inb : ∀ (v3 : BitVec 32) (k0_hw1 : k0_chk1 v3), ∀ a, (k0_off2 v3) a + S1.size a ≤ S1000.size a := fun v3 k0_hw1 => k0_hw1

def k0_off3 (i : grid0.Coords) : Fin 1 → Nat :=
  let arg0 : BitVec 32 := BitVec.ofNat 32 (i 0).val
  let c4_i32_8 : BitVec 32 := 4#32
  let v20 : BitVec 32 := Scalar.muli arg0 c4_i32_8
  let c1_i32 : BitVec 32 := 1#32
  let v21 : BitVec 32 := Scalar.addi v20 c1_i32
  let v22 : Index := Scalar.indexCast v21
  ![v22.toNat]
def k0_off4 (v23 : BitVec 32) : Fin 1 → Nat :=
  let v24 : Index := Scalar.indexCast v23
  ![v24.toNat]

def k0_chk2 (v23 : BitVec 32) : Prop :=
  (∀ a, (k0_off4 v23) a + S1.size a ≤ S1000.size a)
theorem k0_off4_inb : ∀ (v23 : BitVec 32) (k0_hw2 : k0_chk2 v23), ∀ a, (k0_off4 v23) a + S1.size a ≤ S1000.size a := fun v23 k0_hw2 => k0_hw2

def k0_off5 (i : grid0.Coords) : Fin 1 → Nat :=
  let arg0 : BitVec 32 := BitVec.ofNat 32 (i 0).val
  let c4_i32_17 : BitVec 32 := 4#32
  let v40 : BitVec 32 := Scalar.muli arg0 c4_i32_17
  let c2_i32 : BitVec 32 := 2#32
  let v41 : BitVec 32 := Scalar.addi v40 c2_i32
  let v42 : Index := Scalar.indexCast v41
  ![v42.toNat]
def k0_off6 (v43 : BitVec 32) : Fin 1 → Nat :=
  let v44 : Index := Scalar.indexCast v43
  ![v44.toNat]

def k0_chk3 (v43 : BitVec 32) : Prop :=
  (∀ a, (k0_off6 v43) a + S1.size a ≤ S1000.size a)
theorem k0_off6_inb : ∀ (v43 : BitVec 32) (k0_hw3 : k0_chk3 v43), ∀ a, (k0_off6 v43) a + S1.size a ≤ S1000.size a := fun v43 k0_hw3 => k0_hw3

def k0_off7 (i : grid0.Coords) : Fin 1 → Nat :=
  let arg0 : BitVec 32 := BitVec.ofNat 32 (i 0).val
  let c4_i32_26 : BitVec 32 := 4#32
  let v60 : BitVec 32 := Scalar.muli arg0 c4_i32_26
  let c3_i32 : BitVec 32 := 3#32
  let v61 : BitVec 32 := Scalar.addi v60 c3_i32
  let v62 : Index := Scalar.indexCast v61
  ![v62.toNat]
def k0_off8 (v63 : BitVec 32) : Fin 1 → Nat :=
  let v64 : Index := Scalar.indexCast v63
  ![v64.toNat]

def k0_chk4 (v63 : BitVec 32) : Prop :=
  (∀ a, (k0_off8 v63) a + S1.size a ≤ S1000.size a)
theorem k0_off8_inb : ∀ (v63 : BitVec 32) (k0_hw4 : k0_chk4 v63), ∀ a, (k0_off8 v63) a + S1.size a ≤ S1000.size a := fun v63 k0_hw4 => k0_hw4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x3x256x256 : Shape := ⟨4, ![128, 3, 256, 256]⟩
abbrev S128 : Shape := ⟨1, ![128]⟩
abbrev S1000x1x1x1 : Shape := ⟨4, ![1000, 1, 1, 1]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x1x1x1 : Shape := ⟨4, ![128, 1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S128x3x256x256, .f32⟩
  | .hbm, ⟨1, _⟩ => ⟨S128, .i32⟩
  | .hbm, ⟨2, _⟩ => ⟨S128x3x256x256, .f32⟩
  | .hbm, ⟨3, _⟩ => ⟨S1000x1x1x1, .f32⟩
  | .hbm, ⟨4, _⟩ => ⟨S1000x1x1x1, .f32⟩
  | .hbm, ⟨5, _⟩ => ⟨S_, .i32⟩
  | .hbm, ⟨6, _⟩ => ⟨S128, .i32⟩
  | .hbm, ⟨7, _⟩ => ⟨S128, .i1⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S128x1, .i32⟩
  | .hbm, ⟨13, _⟩ => ⟨S1, .i32⟩
  | .hbm, ⟨14, _⟩ => ⟨S_, .i32⟩
  | .hbm, ⟨15, _⟩ => ⟨S128x1, .i32⟩
  | .hbm, ⟨16, _⟩ => ⟨S128x1, .i1⟩
  | .hbm, ⟨17, _⟩ => ⟨S1x1, .i32⟩
  | .hbm, ⟨18, _⟩ => ⟨S128x1, .i32⟩
  | .hbm, ⟨19, _⟩ => ⟨S128x1, .i1⟩
  | .hbm, ⟨20, _⟩ => ⟨S128x1, .i1⟩
  | .hbm, ⟨21, _⟩ => ⟨S_, .i1⟩
  | .hbm, ⟨22, _⟩ => ⟨S128, .i1⟩
  | .hbm, ⟨23, _⟩ => ⟨S128x1x1x1, .f32⟩
  | .hbm, ⟨24, _⟩ => ⟨S128x1x1x1, .i1⟩
  | .hbm, ⟨25, _⟩ => ⟨S_, .f32⟩
  | .hbm, ⟨26, _⟩ => ⟨S128x1x1x1, .f32⟩
  | .hbm, ⟨27, _⟩ => ⟨S128x1x1x1, .f32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S1, .i32⟩
  | .hbm, ⟨37, _⟩ => ⟨S_, .i32⟩
  | .hbm, ⟨38, _⟩ => ⟨S128x1, .i32⟩
  | .hbm, ⟨39, _⟩ => ⟨S128x1, .i1⟩
  | .hbm, ⟨40, _⟩ => ⟨S1x1, .i32⟩
  | .hbm, ⟨41, _⟩ => ⟨S128x1, .i32⟩
  | .hbm, ⟨42, _⟩ => ⟨S128x1, .i1⟩
  | .hbm, ⟨43, _⟩ => ⟨S128x1, .i1⟩
  | .hbm, ⟨44, _⟩ => ⟨S_, .i1⟩
  | .hbm, ⟨45, _⟩ => ⟨S128, .i1⟩
  | .hbm, ⟨46, _⟩ => ⟨S128x1x1x1, .f32⟩
  | .hbm, ⟨47, _⟩ => ⟨S128x1x1x1, .i1⟩
  | .hbm, ⟨48, _⟩ => ⟨S_, .f32⟩
  | .hbm, ⟨49, _⟩ => ⟨S128x1x1x1, .f32⟩
  | .hbm, ⟨50, _⟩ => ⟨S128x1x1x1, .f32⟩
  | .hbm, ⟨51, _⟩ => ⟨S128x3x256x256, .f32⟩
  | .hbm, ⟨52, _⟩ => ⟨S128x3x256x256, .f32⟩
  | .hbm, ⟨53, _⟩ => ⟨S128x3x256x256, .f32⟩
  | .hbm, ⟨54, _⟩ => ⟨S128x3x256x256, .f32⟩
  | .hbm, ⟨55, _⟩ => ⟨S128x3x256x256, .f32⟩
  | _, _ => ⟨S128x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩

abbrev nD : Nat := 1
abbrev τ : Topo := Topo.v7x

variable {F : FTy → Type} [FloatOps F]
-- ==== Proof.Steps.lean ====
/- The precondition read word by word: it holds exactly of timesteps that, as signed words, are at least 0 and below 1000;
   such a word is below 1000 unsigned, too. -/
module

public import proofs.«01_k».proof.Pre_in_range
public import proofs.«01_k».proof.Proof.Gen.Pre_in_range
public import Idealize.ShloMosaic.Lib.WordCmp

@[expose] public section

noncomputable section

namespace Cert.Pre_in_range.Steps

open Idealize.ShloMosaic Cert.Pre_in_range Cert.Pre_in_range.Gen

/-- A word that compares at least 0 and below 1000 is below 1000 as an unsigned word. -/
theorem lt_of_cmp (w : BitVec 32) (h : IntOp.andi (IntOp.cmpi .sge w 0#32) (IntOp.cmpi .slt w 1000#32) = 1#1) : w.toNat < 1000 := by
  by_contra hn
  have hw := w.isLt
  rw [WordCmp.cmpi_sge_zero, WordCmp.cmpi_slt_eq] at h
  by_cases hs : w.toNat < 2 ^ 31
  · have ht : w.toInt = w.toNat := BitVec.toInt_eq_toNat_of_lt (by omega)
    have hk : (1000#32 : BitVec 32).toInt = 1000 := by decide
    rw [ht, hk, decide_eq_false (by omega : ¬ ((w.toNat : Int) < 1000))] at h
    rw [decide_eq_true (show w.toNat < 2 ^ (32 - 1) from hs)] at h
    exact absurd h (by decide)
  · rw [decide_eq_false (show ¬ w.toNat < 2 ^ (32 - 1) from hs)] at h
    revert h
    cases decide (w.toInt < (1000#32 : BitVec 32).toInt) <;> decide

/-- So every timestep in range is. -/
theorem lt_of_in_range {F : FTy → Type} [FloatOps F] (x : FVec F S128x3x256x256 .f32) (ts : IVec S128 32) (y : FVec F S128x3x256x256 .f32)
    (g og : FVec F S1000x1x1x1 .f32) (h : fn (F := F) x ts y g og = fun _ => 1#1) (n : S128.Idx) : (ts n).toNat < 1000 :=
  lt_of_cmp (ts n) (congrFun h n)

end Cert.Pre_in_range.Steps

end
-- ==== Proof.Mix.lean ====
/- What the kernel computes at one place of its output, as plain functions on arrays: a timestep picks one entry of each
   of the two schedules, and the place gets (first entry) * x + (second entry) * noise. Also what the body's word loads
   and its stored blocks are, in these terms. -/
module

public import proofs.«01_k».proof.Proof.Gen.KernelIdeal.Skeleton
public import Idealize.ShloMosaic.Lib.WholeRead
public import Idealize.ShloMosaic.Lib.Writes
public import Idealize.ShloMosaic.Lib.ValueIdx
public import Idealize.ShloMosaic.Lib.Pipeline.Value

@[expose] public section

set_option maxRecDepth 16384

noncomputable section

namespace Cert.KernelIdeal.Mix

open Idealize.ShloMosaic Idealize.SL.Sem
open Idealize.ShloMosaic.ValueIdx
open Cert.KernelIdeal Cert.KernelIdeal.Gen

variable {F : FTy → Type} [FloatOps F]

/-- The entry of a schedule that a timestep names. A word past the schedule's end is wrapped around, so that the function
    is total; no program of the certificate meets such a word. -/
def entry (g : Vec F S1000 .f32) (w : BitVec 32) : Elt F .f32 :=
  g (ix1 ⟨w.toNat % 1000, Nat.mod_lt _ (by decide)⟩)

/-- One mixed element: the schedules' entries at the timestep `w` scale the image's element `x` and the noise's `y`. -/
def mix (w : BitVec 32) (g og : Vec F S1000 .f32) (x y : Elt F .f32) : Elt F .f32 :=
  FloatOps.addf (F := F) (φ := .f32) (FloatOps.mulf (F := F) (φ := .f32) (entry g w) x)
    (FloatOps.mulf (F := F) (φ := .f32) (entry og w) y)

/-- The image that row `k` of block `b` is: image `4 b + k` of the 128. -/
def image (b : Fin 32) (k : Fin 4) : Fin 128 := ⟨4 * b.val + k.val, by omega⟩

/-- What the body leaves in its output block at grid point `b`: row `k` is image `4 b + k`, mixed at that image's
    timestep. -/
def block (b : Fin 32) (ts : Vec F S128 .i32) (g og : Vec F S1000 .f32) (x y : Vec F S4x1536x128 .f32) :
    Vec F S4x1536x128 .f32 :=
  fun z => mix (ts (ix1 (image b (z 0)))) g og (x z) (y z)

/-- A load of one word of the timesteps, at an offset known to be `n`, reads timestep `n`. -/
theorem load_step {arg : Memref sig .tc .smem S128 .i32} (h : arg.IsWhole) (ts : Vec F S128 .i32) {off : Fin 1 → ℕ}
    (inb : ∀ a, off a + S1.size a ≤ S128.size a) (n : Fin 128) (hn : off 0 = n.val) (x : S1.Idx) :
    arg.view.readAt (Elt F) (Rect.unit (s := S128) off S1.size inb).toLoadRect (h.unread ts) x = ts (ix1 n) := by
  rw [h.readAt_unread]
  congr 1
  funext a
  apply Fin.ext
  fin_cases a
  have hx := (x 0).isLt
  simp only [S1] at hx
  simp [LoadRect.idx, Rect.toLoadRect, Rect.unit, hn]
  exact Nat.lt_one_iff.mp hx

/-- A load of one word of a schedule, at the offset that a timestep below 1000 names, reads the schedule's entry there. -/
theorem load_entry {arg : Memref sig .tc .smem S1000 .f32} (h : arg.IsWhole) (g : Vec F S1000 .f32) {off : Fin 1 → ℕ}
    (inb : ∀ a, off a + S1.size a ≤ S1000.size a) (w : BitVec 32) (hw : off 0 = w.toNat) (x : S1.Idx) :
    arg.view.readAt (Elt F) (Rect.unit (s := S1000) off S1.size inb).toLoadRect (h.unread g) x = entry g w := by
  rw [h.readAt_unread]
  unfold entry
  congr 1
  funext a
  apply Fin.ext
  fin_cases a
  have hx := (x 0).isLt
  simp only [S1] at hx
  have hb := inb 0
  rw [hw] at hb
  have hlt : w.toNat < 1000 := by have : w.toNat + 1 ≤ 1000 := hb
                                  omega
  simp [LoadRect.idx, Rect.toLoadRect, Rect.unit, hw, Nat.mod_eq_of_lt hlt]
  exact Nat.lt_one_iff.mp hx

end Cert.KernelIdeal.Mix

end
-- ==== Proof.Body.lean ====
/- One grid point of the kernel: run on staging buffers that hold the timesteps, the two schedules, a block of images and
   a block of noise, the body leaves in the output's buffer the block that `Mix.block` states, whatever was there, and
   leaves the others as they were. The timesteps it reads must be below 1000. -/
module

public import proofs.«01_k».proof.Proof.Mix
public import Idealize.ShloMosaic.Lib.Pipeline.FrameBody
public import Idealize.ShloMosaic.Lib.Ring
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen Cert.KernelIdeal.Mix

variable {F : FTy → Type} [FloatOps F]

local notation "𝕄" => MT nD τ sig Unit (Elt F) ℕ (UR sig nD τ) ℕ

/-! ## The stored values, element by element -/

/-- Row 0's stored value, from the two numbers it was scaled by and the rows it was computed from. -/
theorem row0_apply (a b : Elt F .f32) (x y : Vec F S1x1536x128 .f32) (z : S1x1536x128.Idx) :
    k0_pay2 a b x y z = FloatOps.addf (F := F) (φ := .f32) (FloatOps.mulf a (x z)) (FloatOps.mulf b (y z)) := by
  have e (v : Vec F S1x1536x128 .f32) :
      shapeCast S1x1536x128 (shapeCast S1536x128 v shapeCasts_S1x1536x128_S1536x128) shapeCasts_S1536x128_S1x1536x128 z = v z :=
    congrFun (shapeCast_shapeCast v _ _) z
  exact congrArg₂ (fun u v => FloatOps.addf (F := F) (φ := .f32) (FloatOps.mulf a u) (FloatOps.mulf b v)) (e x) (e y)

/-- Row 1's. -/
theorem row1_apply (a b : Elt F .f32) (x y : Vec F S1x1536x128 .f32) (z : S1x1536x128.Idx) :
    k0_pay4 (k0_pay3 a b x y) z = FloatOps.addf (F := F) (φ := .f32) (FloatOps.mulf a (x z)) (FloatOps.mulf b (y z)) :=
  row0_apply a b x y z

/-- Row 2's. -/
theorem row2_apply (a b : Elt F .f32) (x y : Vec F S1x1536x128 .f32) (z : S1x1536x128.Idx) :
    k0_pay5 a b x y z = FloatOps.addf (F := F) (φ := .f32) (FloatOps.mulf a (x z)) (FloatOps.mulf b (y z)) :=
  row0_apply a b x y z

/-- Row 3's. -/
theorem row3_apply (a b : Elt F .f32) (x y : Vec F S1x1536x128 .f32) (z : S1x1536x128.Idx) :
    k0_pay1 b (k0_pay6 a x) y z = FloatOps.addf (F := F) (φ := .f32) (FloatOps.mulf a (x z)) (FloatOps.mulf b (y z)) :=
  row0_apply a b x y z

/-! ## The words that the body reads -/

/-- The offset of each of the four timestep loads: image `4 b + k` at grid point `b`. -/
theorem off_step (i : grid0.Coords) :
    k0_off1 i 0 = (image (i 0) 0).val ∧ k0_off3 i 0 = (image (i 0) 1).val ∧ k0_off5 i 0 = (image (i 0) 2).val
      ∧ k0_off7 i 0 = (image (i 0) 3).val := by
  have h : ∀ b : Fin 32,
      (Scalar.indexCast (Scalar.addi (Scalar.muli (BitVec.ofNat 32 b.val) 4#32) 0#32)).toNat = (image b 0).val
      ∧ (Scalar.indexCast (Scalar.addi (Scalar.muli (BitVec.ofNat 32 b.val) 4#32) 1#32)).toNat = (image b 1).val
      ∧ (Scalar.indexCast (Scalar.addi (Scalar.muli (BitVec.ofNat 32 b.val) 4#32) 2#32)).toNat = (image b 2).val
      ∧ (Scalar.indexCast (Scalar.addi (Scalar.muli (BitVec.ofNat 32 b.val) 4#32) 3#32)).toNat = (image b 3).val := by
    decide
  exact h (i 0)

/-- A word below 1000 satisfies the body's check that the schedule has an entry there. -/
theorem chk_of_lt (w : BitVec 32) (h : w.toNat < 1000) : k0_chk1 w := by
  intro a
  fin_cases a
  exact h

/-- A row of the output block: scaled by the entries that image `4 b + k`'s timestep names, and computed from row `k` of
    the two input blocks, the stored value is row `k` of `Mix.block`. -/
theorem row_eq (b : Fin 32) (k : Fin 4) {arg4 : Memref sig .tc .vmem S4x1536x128 .f32} (harg4 : arg4.IsWhole)
    {arg5 : Memref sig .tc .vmem S4x1536x128 .f32} (harg5 : arg5.IsWhole)
    (ts : Vec F S128 .i32) (g og : Vec F S1000 .f32) (x y : Vec F S4x1536x128 .f32)
    (inb : ∀ a, (![k.val, 0, 0] : Fin 3 → ℕ) a + S1x1536x128.size a ≤ S4x1536x128.size a)
    {u v : Elt F .f32} (hu : u = entry g (ts (ix1 (image b k)))) (hv : v = entry og (ts (ix1 (image b k)))) (z : S1x1536x128.Idx) :
    FloatOps.addf (F := F) (φ := .f32)
        (FloatOps.mulf u (arg4.view.readAt (Elt F) (Rect.unit (s := S4x1536x128) ![k.val, 0, 0] S1x1536x128.size inb).toLoadRect (harg4.unread x) z))
        (FloatOps.mulf v (arg5.view.readAt (Elt F) (Rect.unit (s := S4x1536x128) ![k.val, 0, 0] S1x1536x128.size inb).toLoadRect (harg5.unread y) z))
      = block b ts g og x y ((Rect.unit (s := S4x1536x128) ![k.val, 0, 0] S1x1536x128.size inb).emb z) := by
  rw [harg4.readAt_unread, harg5.readAt_unread, hu, hv]
  have hz : (z 0).val = 0 := Nat.lt_one_iff.mp (z 0).isLt
  have hk : ((Rect.unit (s := S4x1536x128) ![k.val, 0, 0] S1x1536x128.size inb).emb z) 0 = k := by
    apply Fin.ext
    show k.val + 1 * (z 0).val = k.val
    omega
  unfold block mix
  rw [hk]
  rfl

/-- The body run at grid point `i`. -/
theorem run (c : Dev nD) (i : grid0.Coords)
    (arg1 : Memref sig .tc .smem S128 .i32) (harg1 : arg1.IsWhole) (arg2 : Memref sig .tc .smem S1000 .f32) (harg2 : arg2.IsWhole)
    (arg3 : Memref sig .tc .smem S1000 .f32) (harg3 : arg3.IsWhole) (arg4 : Memref sig .tc .vmem S4x1536x128 .f32) (harg4 : arg4.IsWhole)
    (arg5 : Memref sig .tc .vmem S4x1536x128 .f32) (harg5 : arg5.IsWhole) (arg6 : Memref sig .tc .vmem S4x1536x128 .f32) (harg6 : arg6.IsWhole)
    (ts : Vec F S128 .i32) (g og : Vec F S1000 .f32) (x y : Vec F S4x1536x128 .f32)
    (hts : ∀ n : S128.Idx, BitVec.toNat (ts n) < 1000) (E : Set ℕ) (K : PUnit → sProp 𝕄) :
    iprop(owns (c : Thread nD τ) arg1 fullShare ts ∗ owns (c : Thread nD τ) arg2 fullShare g ∗ owns (c : Thread nD τ) arg3 fullShare og
        ∗ owns (c : Thread nD τ) arg4 fullShare x ∗ owns (c : Thread nD τ) arg5 fullShare y ∗ (∃ d, owns (c : Thread nD τ) arg6 fullShare d)
        ∗ (iprop(owns (c : Thread nD τ) arg1 fullShare ts ∗ owns (c : Thread nD τ) arg2 fullShare g ∗ owns (c : Thread nD τ) arg3 fullShare og
            ∗ owns (c : Thread nD τ) arg4 fullShare x ∗ owns (c : Thread nD τ) arg5 fullShare y
            ∗ owns (c : Thread nD τ) arg6 fullShare (block (i 0) ts g og x y)) -∗ K ⟨⟩))
      ⊢ wp frame (wpE (defs₀ (F := F)) Variants.none c none) E
          (cc0__qsample_kernel i arg1 harg1 arg2 harg2 arg3 harg3 arg4 harg4 arg5 harg5 arg6 harg6) K := by
  obtain ⟨o0, o1, o2, o3⟩ := off_step i
  have l0 := load_step (F := F) harg1 ts (k0_off1_inb i) _ o0 (Shape.Idx.first (numel1_S1.symm ▸ Nat.one_pos))
  have l1 := load_step (F := F) harg1 ts (k0_off3_inb i) _ o1 (Shape.Idx.first (numel1_S1.symm ▸ Nat.one_pos))
  have l2 := load_step (F := F) harg1 ts (k0_off5_inb i) _ o2 (Shape.Idx.first (numel1_S1.symm ▸ Nat.one_pos))
  have l3 := load_step (F := F) harg1 ts (k0_off7_inb i) _ o3 (Shape.Idx.first (numel1_S1.symm ▸ Nat.one_pos))
  have hw1 := chk_of_lt _ (l0 ▸ hts _)
  have hw2 : k0_chk2 _ := chk_of_lt _ (l1 ▸ hts _)
  have hw3 : k0_chk3 _ := chk_of_lt _ (l2 ▸ hts _)
  have hw4 : k0_chk4 _ := chk_of_lt _ (l3 ▸ hts _)
  simp only [cc0__qsample_kernel_eq_skeleton]; unfold cc0__qsample_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hw1 | sl_exact hw2 | sl_exact hw3 | sl_exact hw4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  have e (w : BitVec 32) {w' : BitVec 32} (hw : w = w') (g : Vec F S1000 .f32) {a : Elt F .f32} (ha : a = entry g w) :
      a = entry g w' := ha.trans (congrArg (entry g) hw)
  funext z
  refine View.read_writes_apply_of_pieces _ _ _ _ (fun p hp => ?_) z ?_
  swap; · exact View.cover_of_tiledL (s := S4x1536x128) _ S1x1536x128.size (by sl_kernel_rfl) z
  simp only [List.mem_cons, List.mem_nil_iff, or_false] at hp
  rcases hp with rfl | rfl | rfl | rfl
  · exact fun x' => (row3_apply _ _ _ _ x').trans (row_eq (i 0) 3 harg4 harg5 ts g og x y _
      (e _ l3 g (load_entry harg2 g _ _ rfl _)) (e _ l3 og (load_entry harg3 og _ _ rfl _)) x')
  · exact fun x' => (row2_apply _ _ _ _ x').trans (row_eq (i 0) 2 harg4 harg5 ts g og x y _
      (e _ l2 g (load_entry harg2 g _ _ rfl _)) (e _ l2 og (load_entry harg3 og _ _ rfl _)) x')
  · exact fun x' => (row1_apply _ _ _ _ x').trans (row_eq (i 0) 1 harg4 harg5 ts g og x y _
      (e _ l1 g (load_entry harg2 g _ _ rfl _)) (e _ l1 og (load_entry harg3 og _ _ rfl _)) x')
  · exact fun x' => (row0_apply _ _ _ _ x').trans (row_eq (i 0) 0 harg4 harg5 ts g og x y _
      (e _ l0 g (load_entry harg2 g _ _ rfl _)) (e _ l0 og (load_entry harg3 og _ _ rfl _)) x')

end Cert.KernelIdeal.Body

end
-- ==== Proof.Launch.lean ====
/- The kernel's launch: with every timestep below 1000, the 32 grid points run one after another through the pipeline's
   staging buffers, and the run ends with the arguments as they were, the semaphores at zero and the output array made of
   the 32 blocks that `Mix.block` states. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mix

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The timesteps -/

/-- On every device every timestep, as an unsigned word, is below 1000. -/
def StepsLt : Prop := ∀ (c : Dev nD) (n : S128.Idx), BitVec.toNat ((m ((c : Thread nD τ).loc main_arg1) : Vec F S128 .i32) n) < 1000

/-- The timesteps' window is the whole array at every grid point. -/
theorem iblk_steps (c : Dev nD) (t : Fin cfg0.N) (n : S128.Idx) :
    (iblk m c 0 t : Vec F S128 .i32) n = (m ((c : Thread nD τ).loc main_arg1) : Vec F S128 .i32) n := by
  unfold iblk
  rw [View.read_apply, cast_eq]
  refine (congrFun (V_main_arg1 m c) _).trans (congrArg _ ?_)
  funext a
  fin_cases a
  apply Fin.ext
  show 0 + 1 * (n 0).val = (n 0).val
  omega

/-- So each of its words is below 1000. -/
theorem iblk_steps_lt (hH : StepsLt m) (c : Dev nD) (t : Fin cfg0.N) (n : S128.Idx) :
    BitVec.toNat ((iblk m c 0 t : Vec F S128 .i32) n) < 1000 := by
  rw [iblk_steps]; exact hH c n

/-! ## What each grid point finds and leaves -/

/-- Window `w`'s staging buffer at point `t`, and that it is a whole buffer. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)

/-- The block that point `t` leaves in the output's buffer. -/
def outAt (c : Dev nD) (t : Fin cfg0.N) : Vec F S4x1536x128 .f32 :=
  block (grid0.coords t 0) (iblk m c 0 t) (iblk m c 1 t) (iblk m c 2 t) (iblk m c 3 t) (iblk m c 4 t)

/-- The pipeline's data: inputs stay as found, the output's buffer gets `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

/-- The arrays start as the region finds them. -/
theorem A_eq (c : Dev nD) (w : Fin cfg0.W) : (dats m 0 c).A w = V m c (Pipeline.arrRef spec0 w) := by
  dsimp only [dats]

/-- What the body leaves in each window's buffer. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- What it finds in each input's. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body at a grid point -/

/-- The resources the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- The resources it gives back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body, called with the first, gives back the second: `Body.run` at the blocks that the point finds. -/
theorem sound_body (hH : StepsLt m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  unfold outAt
  iintro ⟨HΦ, Ho, ⟨%d0, H0⟩, ⟨%d1, H1⟩, ⟨%d2, H2⟩, ⟨%d3, H3⟩, ⟨%d4, H4⟩, ⟨%d5, H5⟩⟩
  iapply (Body.run c (grid0.coords t) _ _ _ _ _ _ _ _ _ _ _ _ (iblk m c 0 t) (iblk m c 1 t) (iblk m c 2 t) (iblk m c 3 t)
    (iblk m c 4 t) (iblk_steps_lt m hH c t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The table of bodies, at the kernel's body and point `t`'s buffers, is the body's program there. -/
theorem body_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (hH : StepsLt m) (c : Dev nD) :
    BodyObligation (dats (F := F) m 0 c) (defs₀ (F := F)) Variants.none () Set.univ := fun t => by
  rw [bigSep_W0, bigSep_W0, body_row]
  exact triple_restated (sound_body m hH c t) rfl .rfl fun _ => .rfl

/-! ## The run -/

set_option backward.isDefEq.respectTransparency.types false in
set_option maxHeartbeats 800000 in
/-- The whole program runs to its end; the arrays then hold what the pipeline's data says, the other buffers what the
    host lines after the region leave there, and every semaphore is zero. -/
theorem run_main (hH : StepsLt m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m hH c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they were and every semaphore is zero. -/
theorem frame (hH : StepsLt m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ hH)))
    ((θ_run defs _ _).mono (fun _ h => h.2) (run_main m ρ hH))

end Cert.KernelIdeal.Launch

end
-- ==== Proof.Noised.lean ====
/- The result as a function of the five arguments, by images: image `b` of the result is the `b`-th timestep's entry of the
   first schedule times image `b`, plus its entry of the second schedule times noise image `b`. The kernel works on the same
   arrays flattened (an image as 1536 rows of 128, a schedule as a list of 1000), and flattening and restoring agree. -/
module

public import proofs.«01_k».proof.Proof.Mix

@[expose] public section

noncomputable section

namespace Cert.KernelIdeal.Noised

open Idealize.ShloMosaic Idealize.ShloMosaic.ValueIdx
open Cert.KernelIdeal Cert.KernelIdeal.Gen Cert.KernelIdeal.Mix

variable {F : FTy → Type} [FloatOps F]

/-- A schedule as a list of 1000. -/
abbrev flatSchedule (g : Vec F S1000x1x1x1 .f32) : Vec F S1000 .f32 := shapeCast S1000 g shapeCasts_S1000x1x1x1_S1000

/-- The images, each as 1536 rows of 128. -/
abbrev flatImages (x : Vec F S128x3x256x256 .f32) : Vec F S128x1536x128 .f32 :=
  shapeCast S128x1536x128 x shapeCasts_S128x3x256x256_S128x1536x128

/-- The result of the five arguments. -/
def noised (ts : Vec F S128 .i32) (g og : Vec F S1000x1x1x1 .f32) (x y : Vec F S128x3x256x256 .f32) : Vec F S128x3x256x256 .f32 :=
  fun j => mix (ts (ix1 (j 0))) (flatSchedule g) (flatSchedule og) (x j) (y j)

/-- The same over flattened schedules and images. -/
def flatNoised (ts : Vec F S128 .i32) (g og : Vec F S1000 .f32) (x y : Vec F S128x1536x128 .f32) : Vec F S128x1536x128 .f32 :=
  fun i => mix (ts (ix1 (i 0))) g og (x i) (y i)

/-- The entry of a flattened schedule, in the schedule. -/
theorem entry_flatSchedule (g : Vec F S1000x1x1x1 .f32) (w : BitVec 32) :
    entry (flatSchedule g) w = g (ix4 ⟨w.toNat % 1000, Nat.mod_lt _ (by decide)⟩ 0 0 0) := by
  unfold entry
  refine shapeCast_apply g _ _ _ ?_
  rw [Shape.rowMajor_val_four, Shape.rowMajor_val_one]
  show ((w.toNat % 1000 * 1 + 0) * 1 + 0) * 1 + 0 = w.toNat % 1000
  omega

/-- Where an element of an image lies in the flattened image: same image, row and column by its place in row-major order. -/
def place (j : S128x3x256x256.Idx) : S128x1536x128.Idx :=
  ix3 (j 0) ⟨(((j 1).val * 256 + (j 2).val) * 256 + (j 3).val) / 128, by
    have h1 : (j 1).val < 3 := (j 1).isLt
    have h2 : (j 2).val < 256 := (j 2).isLt
    have h3 : (j 3).val < 256 := (j 3).isLt
    omega⟩ ⟨(((j 1).val * 256 + (j 2).val) * 256 + (j 3).val) % 128, Nat.mod_lt _ (by decide)⟩

/-- It is at the same row-major position. -/
theorem place_rowMajor (j : S128x3x256x256.Idx) : (S128x1536x128.rowMajor (place j)).val = (S128x3x256x256.rowMajor j).val := by
  rw [Shape.rowMajor_val_three, Shape.rowMajor_val_four]
  show ((j 0).val * 1536 + (((j 1).val * 256 + (j 2).val) * 256 + (j 3).val) / 128) * 128
      + (((j 1).val * 256 + (j 2).val) * 256 + (j 3).val) % 128 = (((j 0).val * 3 + (j 1).val) * 256 + (j 2).val) * 256 + (j 3).val
  omega

/-- The flattened result of the flattened arguments, restored, is the result. -/
theorem restore_flatNoised (ts : Vec F S128 .i32) (g og : Vec F S1000x1x1x1 .f32) (x y : Vec F S128x3x256x256 .f32) :
    shapeCast S128x3x256x256 (flatNoised ts (flatSchedule g) (flatSchedule og) (flatImages x) (flatImages y))
      shapeCasts_S128x1536x128_S128x3x256x256 = noised ts g og x y := by
  funext j
  have e (v : Vec F S128x3x256x256 .f32) : flatImages v (place j) = v j := shapeCast_apply v _ _ _ (place_rowMajor j).symm
  rw [shapeCast_apply _ _ j (place j) (place_rowMajor j)]
  unfold flatNoised noised
  rw [e, e]
  rfl

end Cert.KernelIdeal.Noised

end
-- ==== Proof.Final.lean ====
/- What the kernel's output array holds after the run: the 32 blocks tile it, so it is the flattened result, and the host's
   last line restores it to images. -/
module

public import proofs.«01_k».proof.Proof.Launch
public import proofs.«01_k».proof.Proof.Noised

@[expose] public section

set_option maxRecDepth 16384

noncomputable section

namespace Cert.KernelIdeal.Final

open Idealize.ShloMosaic Idealize.ShloMosaic.TcCoe Idealize.ShloMosaic.ValueIdx
open Idealize.SL.Sem
open Cert.KernelIdeal Cert.KernelIdeal.Gen Cert.KernelIdeal.Mix Cert.KernelIdeal.Noised Cert.KernelIdeal.Launch

variable {F : FTy → Type} [FloatOps F]
variable (m : (ℓ : Loc nD τ sig) → Buf (Elt F) ℓ) (ρ : Dev nD → PrngReg)

/-! ## What the region finds -/

/-- The host's lines before the region flatten the schedules and the images. -/
theorem V_v0 (c : Dev nD) : V m c main_v0 = flatSchedule (m ((c : Thread nD τ).loc main_arg3)) := by

  rfl
theorem V_v1 (c : Dev nD) : V m c main_v1 = flatSchedule (m ((c : Thread nD τ).loc main_arg4)) := by

  rfl
theorem V_v2 (c : Dev nD) : V m c main_v2 = flatImages (m ((c : Thread nD τ).loc main_arg0)) := by

  rfl
theorem V_v3 (c : Dev nD) : V m c main_v3 = flatImages (m ((c : Thread nD τ).loc main_arg2)) := by

  rfl

/-! ## Where the blocks lie -/

/-- Element `z` of the block of grid point `b`: image `4 b + z 0`, at the same row and column. -/
def spot (b : Fin 32) (z : S4x1536x128.Idx) : S128x1536x128.Idx := ix3 (image b (z 0)) (z 1) (z 2)

/-- The block index of the three blocked windows: the grid point, at the first row and column. -/
theorem index_eq : ∀ t : Fin cfg0.N,
    (win0_3.index t (0 : Fin 3) = (grid0.coords t 0).val ∧ win0_3.index t (1 : Fin 3) = 0 ∧ win0_3.index t (2 : Fin 3) = 0)
    ∧ (win0_4.index t (0 : Fin 3) = (grid0.coords t 0).val ∧ win0_4.index t (1 : Fin 3) = 0 ∧ win0_4.index t (2 : Fin 3) = 0)
    ∧ (win0_5.index t (0 : Fin 3) = (grid0.coords t 0).val ∧ win0_5.index t (1 : Fin 3) = 0 ∧ win0_5.index t (2 : Fin 3) = 0) := by
  decide

theorem emb3 (t : Fin cfg0.N) (z : S4x1536x128.Idx) : ((cfg0.win 3).blk t).view.emb z = spot (grid0.coords t 0) z := by
  obtain ⟨⟨e0, e1, e2⟩, -, -⟩ := index_eq t
  funext a; apply Fin.ext
  match a with
  | ⟨0, _⟩ => show win0_3.index t (0 : Fin 3) * 4 + 1 * (z 0).val = 4 * (grid0.coords t 0).val + (z 0).val; omega
  | ⟨1, _⟩ => show win0_3.index t (1 : Fin 3) * 1536 + 1 * (z 1).val = (z 1).val; omega
  | ⟨2, _⟩ => show win0_3.index t (2 : Fin 3) * 128 + 1 * (z 2).val = (z 2).val; omega

theorem emb4 (t : Fin cfg0.N) (z : S4x1536x128.Idx) : ((cfg0.win 4).blk t).view.emb z = spot (grid0.coords t 0) z := by
  obtain ⟨-, ⟨e0, e1, e2⟩, -⟩ := index_eq t
  funext a; apply Fin.ext
  match a with
  | ⟨0, _⟩ => show win0_4.index t (0 : Fin 3) * 4 + 1 * (z 0).val = 4 * (grid0.coords t 0).val + (z 0).val; omega
  | ⟨1, _⟩ => show win0_4.index t (1 : Fin 3) * 1536 + 1 * (z 1).val = (z 1).val; omega
  | ⟨2, _⟩ => show win0_4.index t (2 : Fin 3) * 128 + 1 * (z 2).val = (z 2).val; omega

theorem emb5 (t : Fin cfg0.N) (z : S4x1536x128.Idx) : ((cfg0.win 5).blk t).view.emb z = spot (grid0.coords t 0) z := by
  obtain ⟨-, -, e0, e1, e2⟩ := index_eq t
  funext a; apply Fin.ext
  match a with
  | ⟨0, _⟩ => show win0_5.index t (0 : Fin 3) * 4 + 1 * (z 0).val = 4 * (grid0.coords t 0).val + (z 0).val; omega
  | ⟨1, _⟩ => show win0_5.index t (1 : Fin 3) * 1536 + 1 * (z 1).val = (z 1).val; omega
  | ⟨2, _⟩ => show win0_5.index t (2 : Fin 3) * 128 + 1 * (z 2).val = (z 2).val; omega

/-! ## What the blocks hold -/

/-- A schedule's window is the whole schedule at every point. -/
theorem iblk_g (c : Dev nD) (t : Fin cfg0.N) : (iblk m c 1 t : Vec F S1000 .f32) = flatSchedule (m ((c : Thread nD τ).loc main_arg3)) := by
  rw [← V_v0]
  funext n
  show V m c main_v0 (((cfg0.win 1).blk t).view.emb n) = V m c main_v0 n
  refine congrArg _ (funext fun a => ?_)
  fin_cases a
  exact Fin.ext (by show 0 + 1 * (n 0).val = (n 0).val; omega)

theorem iblk_og (c : Dev nD) (t : Fin cfg0.N) : (iblk m c 2 t : Vec F S1000 .f32) = flatSchedule (m ((c : Thread nD τ).loc main_arg4)) := by
  rw [← V_v1]
  funext n
  show V m c main_v1 (((cfg0.win 2).blk t).view.emb n) = V m c main_v1 n
  refine congrArg _ (funext fun a => ?_)
  fin_cases a
  exact Fin.ext (by show 0 + 1 * (n 0).val = (n 0).val; omega)

/-- The images' window at a point is that point's block of the flattened images; so the noise's. -/
theorem iblk_x (c : Dev nD) (t : Fin cfg0.N) (z : S4x1536x128.Idx) :
    (iblk m c 3 t : Vec F S4x1536x128 .f32) z = flatImages (m ((c : Thread nD τ).loc main_arg0)) (spot (grid0.coords t 0) z) := by
  rw [← V_v2]
  show V m c main_v2 (((cfg0.win 3).blk t).view.emb z) = _
  rw [emb3]

theorem iblk_y (c : Dev nD) (t : Fin cfg0.N) (z : S4x1536x128.Idx) :
    (iblk m c 4 t : Vec F S4x1536x128 .f32) z = flatImages (m ((c : Thread nD τ).loc main_arg2)) (spot (grid0.coords t 0) z) := by
  rw [← V_v3]
  show V m c main_v3 (((cfg0.win 4).blk t).view.emb z) = _
  rw [emb4]

/-- The flattened result of device `c`'s arguments. -/
def goal (c : Dev nD) : Vec F S128x1536x128 .f32 :=
  flatNoised (m ((c : Thread nD τ).loc main_arg1)) (flatSchedule (m ((c : Thread nD τ).loc main_arg3)))
    (flatSchedule (m ((c : Thread nD τ).loc main_arg4))) (flatImages (m ((c : Thread nD τ).loc main_arg0)))
    (flatImages (m ((c : Thread nD τ).loc main_arg2)))

/-- What a point leaves in the output's buffer is its block of the flattened result. -/
theorem outAt_eq (c : Dev nD) (t : Fin cfg0.N) (z : S4x1536x128.Idx) : outAt m c t z = goal m c (spot (grid0.coords t 0) z) := by
  unfold outAt block
  rw [iblk_steps, iblk_g, iblk_og, iblk_x, iblk_y]
  rfl

/-- So that is what it writes back. -/
theorem flushed_eq (c : Dev nD) (t : Fin cfg0.N) :
    (dats m 0 c).flushed 5 t = ((cfg0.win 5).blk t).view.read (Elt F) (goal m c) := by
  show (cfg0.win 5).cut (grid0.coords t) ((dats m 0 c).after 5 t) = _
  rw [after5]
  funext z
  show outAt m c t z = goal m c (((cfg0.win 5).blk t).view.emb z)
  rw [emb5, outAt_eq]

/-- Every element of the output array is in the block of the point that its image's number divided by four names. -/
theorem cover (i : S128x1536x128.Idx) : ∃ t : Fin cfg0.N, (cfg0.win 5).flush t = true ∧ i ∈ ((cfg0.win 5).blk t).view.set := by
  have h0 : (i 0).val < 128 := (i 0).isLt
  have hp : ∀ t : Fin cfg0.N, (grid0.coords t 0).val = t.val := by decide
  have ht : (i 0).val / 4 < cfg0.N := by have : cfg0.N = 32 := N_0; omega
  refine ⟨⟨(i 0).val / 4, ht⟩, flush0_5 _, ?_⟩
  have h := ((cfg0.win 5).blk (⟨(i 0).val / 4, ht⟩ : Fin cfg0.N)).view.emb_mem_set
    (ix3 (⟨(i 0).val % 4, Nat.mod_lt _ (by decide)⟩ : Fin 4) (i 1) (i 2) : S4x1536x128.Idx)
  rw [emb5] at h
  refine Eq.mpr (congrArg (· ∈ _) (?_ : i = _)) h
  funext a; apply Fin.ext
  match a with
  | ⟨0, _⟩ =>
    show (i 0).val = 4 * (grid0.coords (⟨(i 0).val / 4, ht⟩ : Fin cfg0.N) 0).val + (i 0).val % 4
    rw [hp]; show (i 0).val = 4 * ((i 0).val / 4) + (i 0).val % 4; omega
  | ⟨1, _⟩ => rfl
  | ⟨2, _⟩ => rfl

/-- The output array after the run is the flattened result. -/
theorem array_eq (c : Dev nD) : (dats m 0 c).arrAt 5 cfg0.N = goal m c :=
  (dats m 0 c).arrAt_eq_of_cover 5 (goal m c) (fun t _ => flushed_eq m c t) cover

/-- The host's last line restores it to images: the result of the five arguments. -/
theorem result_eq (c : Dev nD) : Pipeline.afterTail₀ cfgs (dats m) 0 (V0 m) [hostOps1] c main_v5
    = noised (m ((c : Thread nD τ).loc main_arg1)) (m ((c : Thread nD τ).loc main_arg3)) (m ((c : Thread nD τ).loc main_arg4))
        (m ((c : Thread nD τ).loc main_arg0)) (m ((c : Thread nD τ).loc main_arg2)) := by
  have h : Pipeline.withArrays spec0 c (V0 m c) (fun w => (dats m 0 c).arrAt w cfg0.N) (Proc.devRef .tc main_v4) = goal m c :=
    (Pipeline.withArrays_arr spec0 launch0.win.arr_inj c (V0 m c) _ 5).trans (array_eq m c)
  rw [← restore_flatNoised]
  unfold Pipeline.afterTail₀
  show shapeCast S128x3x256x256 (Pipeline.withArrays spec0 c (V0 m c) (fun w => (dats m 0 c).arrAt w cfg0.N) (Proc.devRef .tc main_v4))
    shapeCasts_S128x1536x128_S128x3x256x256 = _
  rw [h]
  rfl

/-- THE KERNEL'S VALUE: with the timesteps below 1000, every run ends with the result buffer at the result of the five
    arguments and the arguments unchanged. -/
theorem run (hH : StepsLt m) : θ_run defs (onTc (τ := τ) (main (F := F))) ⟨m, fun _ => 0, ρ⟩ (fun r => ∀ c : Dev nD,
      r.2.mem ((c.tc : Thread nD τ).loc main_v5)
        = noised (m ((c : Thread nD τ).loc main_arg1)) (m ((c : Thread nD τ).loc main_arg3)) (m ((c : Thread nD τ).loc main_arg4))
            (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨((h.1.1 c).2 main_v5 (Pipeline.mem_restRefs_of main_v5 (by decide) (by decide))).trans (result_eq m c), h.2.1 c⟩)
    (θ_run_and (run_main m ρ hH) (frame m ρ hH))

end Cert.KernelIdeal.Final

end
-- ==== Proof.Reference.lean ====
/- What the reference computes. It looks a schedule up at the timesteps as numpy does: a negative index counts from the end,
   and an index outside the schedule gives a row of NaNs. Timesteps below 1000 are neither, so the row of image `b` is the
   schedule at its timestep, and the whole is the result of the five arguments. -/
module

public import proofs.«01_k».proof.Proof.Gen.ReferenceIdeal.Run
public import proofs.«01_k».proof.Proof.Noised
public import Idealize.ShloMosaic.Lib.WordCmp
public import Idealize.ShloMosaic.Lib.ReduceAll
public import Idealize.ShloMosaic.Lib.StableHlo.Predicate

@[expose] public section

set_option maxRecDepth 16384

noncomputable section

namespace Cert.ReferenceIdeal.Look

open Idealize.ShloMosaic Idealize.ShloMosaic.TcCoe Idealize.ShloMosaic.ValueIdx
open Idealize.SL.Sem
open Cert.ReferenceIdeal Cert.ReferenceIdeal.Gen
open Cert.KernelIdeal.Noised (noised entry_flatSchedule)

variable {F : FTy → Type} [FloatOps F]

/-! ## The pieces of the lookup -/

/-- The timesteps with the negative ones counted from the end. -/
def steps (ts : IVec S128 32) : IVec S128 32 :=
  select (cmpi .slt ts (broadcastInDim S128 ![] bcast_S_S128 (constantI S_ 32 0#32)))
    (addi ts (broadcastInDim S128 ![] bcast_S_S128 (constantI S_ 32 1000#32))) ts

/-- The same as a column of start indices. -/
def column (ts : IVec S128 32) : IVec S128x1 32 := broadcastInDim S128x1 ![0] bcast_S128_S128x1_0 (steps ts)

/-- Which start indices lie in the schedule. -/
def inside (ts : IVec S128 32) : IVec S128x1 1 :=
  andi (cmpi .sge (column ts) (broadcastInDim S128x1 ![] bcast_S_S128x1 (constantI S_ 32 0#32)))
    (cmpi .sle (column ts) (broadcastInDim S128x1 ![0, 1] bcast_S1x1_S128x1_0_1
      (broadcastInDim S1x1 ![1] bcast_S1_S1x1_1 (constantI S1 32 999#32))))

/-- The schedule looked up, one entry per image; NaN where the index lies outside. -/
def rows (ts : IVec S128 32) (g : FVec F S1000x1x1x1 .f32) : FVec F S128x1x1x1 .f32 :=
  select (broadcastInDim S128x1x1x1 ![0] bcast_S128_S128x1x1x1_0
      (Host.reduce IntOp.andi (inside ts) (constantI S_ 1 1#1) reducesTo_S128x1_S128_d1 h_S_))
    (Host.gather gather_S1000x1x1x1_S128x1_S128x1x1x1_123_0_n_n_0_1_1111 g (column ts))
    (broadcastInDim S128x1x1x1 ![] bcast_S_S128x1x1x1 (constant S_ .f32 0x7FC00000#32))

/-- Each entry laid over its image. -/
def spread (v : FVec F S128x1x1x1 .f32) : FVec F S128x3x256x256 .f32 :=
  broadcastInDim S128x3x256x256 ![0, 1, 2, 3] bcast_S128x1x1x1_S128x3x256x256_0_1_2_3 v

/-- The reference's term. -/
def value (ts : IVec S128 32) (g og : FVec F S1000x1x1x1 .f32) (x y : FVec F S128x3x256x256 .f32) : FVec F S128x3x256x256 .f32 :=
  addf (mulf (spread (rows ts g)) x) (mulf (spread (rows ts og)) y)

/-! ## Read at timesteps in range -/

/-- A word below 1000 does not compare below zero. -/
theorem not_neg (w : BitVec 32) (h : w.toNat < 1000) : IntOp.cmpi .slt w 0#32 = 0#1 := by
  rw [WordCmp.cmpi_slt_zero, decide_eq_false (by omega)]; rfl

/-- A word below 1000 lies in the schedule. -/
theorem inside_word (w : BitVec 32) (h : w.toNat < 1000) :
    IntOp.andi (IntOp.cmpi .sge w 0#32) (IntOp.cmpi .sle w 999#32) = 1#1 := by
  have hk : (999#32 : BitVec 32).toNat = 999 := by decide
  rw [WordCmp.cmpi_sge_zero, decide_eq_true (by omega : w.toNat < 2 ^ (32 - 1)),
    WordCmp.cmpi_sle_of_lt (by omega) (by omega), decide_eq_true (by omega : w.toNat ≤ (999#32 : BitVec 32).toNat)]
  rfl

/-- Timesteps in range are left alone. -/
theorem steps_eq (ts : IVec S128 32) (h : ∀ n, (ts n).toNat < 1000) : steps ts = ts := by
  funext n
  show Scalar.select (IntOp.cmpi .slt (ts n) 0#32) (ts n + 1000#32) (ts n) = ts n
  rw [not_neg _ (h n)]
  rfl

/-- The column at row `b` is the timestep of image `b`. -/
theorem column_apply (ts : IVec S128 32) (h : ∀ n, (ts n).toNat < 1000) (i : S128x1.Idx) : column ts i = ts (ix1 (i 0)) := by
  unfold column
  rw [steps_eq ts h]
  refine broadcastInDim_apply _ _ _ _ _ fun a => ?_
  fin_cases a
  rfl

/-- All of them lie in the schedule. -/
theorem inside_apply (ts : IVec S128 32) (h : ∀ n, (ts n).toNat < 1000) (i : S128x1.Idx) : inside ts i = 1#1 := by
  show IntOp.andi (IntOp.cmpi .sge (column ts i) 0#32) (IntOp.cmpi .sle (column ts i) 999#32) = 1#1
  rw [column_apply ts h]
  exact inside_word _ (h _)

/-- The gather reads, for image `b`, the schedule at the `b`-th start index clamped into it. -/
theorem gather_apply (g : FVec F S1000x1x1x1 .f32) (idx : IVec S128x1 32) (j : S128x1x1x1.Idx) :
    Host.gather gather_S1000x1x1x1_S128x1_S128x1x1x1_123_0_n_n_0_1_1111 g idx j
      = g (ix4 ⟨min (idx (ix2 (j 0) 0)).toInt.toNat 999, by omega⟩ 0 0 0) := by
  unfold Host.gather
  refine congrArg g (funext fun a => ?_)
  match a with
  | ⟨0, _⟩ =>
    apply Fin.ext
    rw [GatherDims.operandIdx]
    have hb : (0 : Fin 4) ∉ gather_S1000x1x1x1_S128x1_S128x1x1x1_123_0_n_n_0_1_1111.operandBatchingDims := List.not_mem_nil
    have hk : (0 : Fin 4) ∉ gather_S1000x1x1x1_S128x1_S128x1x1x1_123_0_n_n_0_1_1111.sKept := by
      rw [GatherDims.mem_sKept]; exact fun h => h.1 (List.mem_singleton.mpr rfl)
    have hm : (0 : Fin 4) ∈ gather_S1000x1x1x1_S128x1_S128x1x1x1_123_0_n_n_0_1_1111.startIndexMap := List.mem_singleton.mpr rfl
    show GatherDims.start gather_S1000x1x1x1_S128x1_S128x1x1x1_123_0_n_n_0_1_1111 j idx 0
      + GatherDims.batchCoord gather_S1000x1x1x1_S128x1_S128x1x1x1_123_0_n_n_0_1_1111 j 0
      + GatherDims.offCoord gather_S1000x1x1x1_S128x1_S128x1x1x1_123_0_n_n_0_1_1111 j 0 = _
    rw [GatherDims.batchCoord_eq_zero _ _ _ hb, GatherDims.offCoord_eq_zero _ _ _ hk, GatherDims.start, dif_pos hm]
    show min (idx _).toInt.toNat 999 = min (idx _).toInt.toNat 999
    congr 4
    funext b
    match b with
    | ⟨0, _⟩ => rfl
    | ⟨1, _⟩ => rfl
  | ⟨1, _⟩ => exact Subsingleton.elim (α := Fin 1) _ _
  | ⟨2, _⟩ => exact Subsingleton.elim (α := Fin 1) _ _
  | ⟨3, _⟩ => exact Subsingleton.elim (α := Fin 1) _ _

/-- The row of image `b` is the schedule's entry at the image's timestep. -/
theorem rows_apply (ts : IVec S128 32) (h : ∀ n, (ts n).toNat < 1000) (g : FVec F S1000x1x1x1 .f32) (j : S128x1x1x1.Idx) :
    rows ts g j = Cert.KernelIdeal.Mix.entry (Cert.KernelIdeal.Noised.flatSchedule g) (ts (ix1 (j 0))) := by
  have hr : ∀ n, Host.reduce IntOp.andi (inside ts) (constantI S_ 1 1#1) reducesTo_S128x1_S128_d1 h_S_ n = 1#1 := fun n =>
    Host.reduce_andi_one _ _ _ _ _ rfl (inside_apply ts h)
  have hw := h (ix1 (j 0))
  show Scalar.select (Host.reduce IntOp.andi (inside ts) (constantI S_ 1 1#1) reducesTo_S128x1_S128_d1 h_S_ _) _ _ = _
  rw [hr]
  show Host.gather gather_S1000x1x1x1_S128x1_S128x1x1x1_123_0_n_n_0_1_1111 g (column ts) j = _
  rw [gather_apply, entry_flatSchedule]
  refine congrArg (fun e => g (ix4 e 0 0 0)) (Fin.ext ?_)
  show min (column ts (ix2 (j 0) 0)).toInt.toNat 999 = (ts (ix1 (j 0))).toNat % 1000
  rw [column_apply ts h]
  show min (ts (ix1 (j 0))).toInt.toNat 999 = (ts (ix1 (j 0))).toNat % 1000
  rw [BitVec.toInt_eq_toNat_of_lt (by omega), Int.toNat_natCast, Nat.mod_eq_of_lt hw]
  omega

/-- The entry of an image, at any of its elements. -/
theorem spread_apply (v : FVec F S128x1x1x1 .f32) (j : S128x3x256x256.Idx) : spread v j = v (ix4 (j 0) 0 0 0) := by
  refine broadcastInDim_apply _ _ _ _ _ fun a => ?_
  fin_cases a <;> rfl

/-- THE EQUATION: at timesteps in range the reference's term is the result of the five arguments. -/
theorem value_eq (ts : IVec S128 32) (h : ∀ n, (ts n).toNat < 1000) (g og : FVec F S1000x1x1x1 .f32)
    (x y : FVec F S128x3x256x256 .f32) : value ts g og x y = noised ts g og x y := by
  funext j
  show FloatOps.addf (FloatOps.mulf (spread (rows ts g) j) (x j)) (FloatOps.mulf (spread (rows ts og) j) (y j)) = _
  rw [spread_apply, spread_apply, rows_apply ts h, rows_apply ts h]
  rfl

/-- THE REFERENCE'S VALUE: with the timesteps below 1000, every run ends with the result buffer at the result of the five
    arguments and the arguments unchanged. -/
theorem run (m : (ℓ : Loc nD τ sig) → Buf (Elt F) ℓ) (ρ : Dev nD → PrngReg)
    (h : ∀ (c : Dev nD) (n : S128.Idx), BitVec.toNat ((m ((c : Thread nD τ).loc main_arg1) : Vec F S128 .i32) n) < 1000) :
    θ_run defs (onTc (τ := τ) (main (F := F))) ⟨m, fun _ => 0, ρ⟩ (fun r => ∀ c : Dev nD,
      r.2.mem ((c.tc : Thread nD τ).loc main_v6)
        = noised (m ((c : Thread nD τ).loc main_arg1)) (m ((c : Thread nD τ).loc main_arg3)) (m ((c : Thread nD τ).loc main_arg4))
            (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨(hr c).1.trans (value_eq _ (h c) _ _ _ _), (hr c).2⟩)
    (Cert.ReferenceIdeal.Value.run m ρ)

end Cert.ReferenceIdeal.Look

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.Steps
public import proofs.«01_k».proof.Proof.Launch
public import proofs.«01_k».proof.Proof.Final
public import proofs.«01_k».proof.Proof.Reference

@[expose] public section

noncomputable section

namespace Cert.Proof

open Idealize.ShloMosaic Idealize.SL.Sem

/-- The kernel's precondition at any floats: on every device the timesteps are in range. -/
def InRange {F : FTy → Type} [FloatOps F]
    (m : (ℓ : Loc Cert.KernelIdeal.nD Cert.KernelIdeal.τ Cert.KernelIdeal.sig) → Buf (Elt F) ℓ) : Prop :=
  ∀ c : Dev Cert.KernelIdeal.nD, Cert.Pre_in_range.fn (F := F)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) = (fun _ => 1#1)

/-- It bounds every timestep by 1000. -/
theorem stepsLt {F : FTy → Type} [FloatOps F]
    (m : (ℓ : Loc Cert.KernelIdeal.nD Cert.KernelIdeal.τ Cert.KernelIdeal.sig) → Buf (Elt F) ℓ) (h : InRange m) :
    Cert.KernelIdeal.Launch.StepsLt m := fun c n => Cert.Pre_in_range.Steps.lt_of_in_range _ _ _ _ _ (h c) n

/-- The kernel's frame at any floats: it runs, its arguments end unchanged, every semaphore ends at zero. -/
def Frame (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    InRange m → θ_run (Cert.KernelIdeal.defs (F := F)) (onTc (τ := Cert.KernelIdeal.τ) (Cert.KernelIdeal.main (F := F)))
      ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0)

theorem frame (F : FTy → Type) [FloatOps F] : Frame F := fun m g h => Cert.KernelIdeal.Launch.frame m g (stepsLt m h)

/-- The frame of the kernel as printed is that of its idealization read at bits: no operation was replaced, so the two
    programs are the same text. -/
theorem frame_bits : Cert.quiescent_Kernel (hKernel := Cert.Kernel.Gen.facts) (hPre_in_range := Cert.Pre_in_range.Gen.facts) = Frame Bits := by
  sl_kernel_rfl

/-- The reference's frame, whatever its arguments: it declares no semaphore. -/
theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run (F := Ideal) m g)

/-- The idealized kernel and the reference, from the same arguments with timesteps in range, both end with the result of
    those arguments. -/
theorem value : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' h e
  have hs := stepsLt m h
  have hs' : ∀ (c : Dev Cert.ReferenceIdeal.nD) (n : Cert.ReferenceIdeal.S128.Idx),
      BitVec.toNat ((m' ((c.tc : Thread Cert.ReferenceIdeal.nD Cert.ReferenceIdeal.τ).loc Cert.ReferenceIdeal.main_arg1) :
        Vec Ideal Cert.ReferenceIdeal.S128 .i32) n) < 1000 := fun c n => by
    rw [(e c).2.1]; exact hs c n
  refine ⟨_, Cert.KernelIdeal.Final.run m g hs, ?_⟩
  refine (θ_run Cert.ReferenceIdeal.defs _ _).mono (fun r hr c => ⟨(hr c).1.trans ?_, (hr c).2⟩)
    (Cert.ReferenceIdeal.Look.run (F := Ideal) m' g' hs')
  rw [(e c).1, (e c).2.1, (e c).2.2.1, (e c).2.2.2.1, (e c).2.2.2.2]

theorem claim : Cert.Claim := ⟨Cert.Kernel.Gen.facts, Cert.KernelIdeal.Gen.facts, Cert.ReferenceIdeal.Gen.facts, Cert.Pre_in_range.Gen.facts,
  frame_bits.mpr (frame Bits), frame Ideal, frame_reference, fun m g _ => frame_reference m g trivial, trivial, value⟩

end Cert.Proof

end
